-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x256 : Shape := ⟨3, ![32, 512, 256]⟩
abbrev S32x512x512 : Shape := ⟨3, ![32, 512, 512]⟩
abbrev S256x256 : Shape := ⟨2, ![256, 256]⟩
abbrev S256x128 : Shape := ⟨2, ![256, 128]⟩
abbrev S16x128x128 : Shape := ⟨3, ![16, 128, 128]⟩
abbrev S16x256 : Shape := ⟨2, ![16, 256]⟩
abbrev S16 : Shape := ⟨1, ![16]⟩
abbrev S16x1 : Shape := ⟨2, ![16, 1]⟩
abbrev S2048x128 : Shape := ⟨2, ![2048, 128]⟩
abbrev S1x16 : Shape := ⟨2, ![1, 16]⟩
abbrev S32x1 : Shape := ⟨2, ![32, 1]⟩
abbrev S32 : Shape := ⟨1, ![32]⟩
abbrev S4x512x256 : Shape := ⟨3, ![4, 512, 256]⟩
abbrev S4x512x512 : Shape := ⟨3, ![4, 512, 512]⟩
abbrev S64x128 : Shape := ⟨2, ![64, 128]⟩
abbrev S1x512 : Shape := ⟨2, ![1, 512]⟩
abbrev S1x512x256 : Shape := ⟨3, ![1, 512, 256]⟩
abbrev S512x256 : Shape := ⟨2, ![512, 256]⟩
abbrev S1x512x512 : Shape := ⟨3, ![1, 512, 512]⟩
abbrev S512x512 : Shape := ⟨2, ![512, 512]⟩
abbrev S512x128 : Shape := ⟨2, ![512, 128]⟩
abbrev S1x128 : Shape := ⟨2, ![1, 128]⟩
abbrev S32x128 : Shape := ⟨2, ![32, 128]⟩
abbrev S32x2048 : Shape := ⟨2, ![32, 2048]⟩
abbrev S2048x16 : Shape := ⟨2, ![2048, 16]⟩
abbrev S32x16 : Shape := ⟨2, ![32, 16]⟩
abbrev S16x128 : Shape := ⟨2, ![16, 128]⟩

abbrev nBuf : Space → Nat
  | .hbm => 14
  | .vmem => 16
  | .smem => 0
  | _ => 0

abbrev bufTy : (tb : Table) → Fin (tcTables nBuf tb) → BufTy
  | .hbm, ⟨0, _⟩ => ⟨S32x512x256, .f32⟩
  | .hbm, ⟨1, _⟩ => ⟨S32x512x256, .f32⟩
  | .hbm, ⟨2, _⟩ => ⟨S32x512x512, .f32⟩
  | .hbm, ⟨3, _⟩ => ⟨S32x512x512, .f32⟩
  | .hbm, ⟨4, _⟩ => ⟨S256x256, .f32⟩
  | .hbm, ⟨5, _⟩ => ⟨S256x128, .f32⟩
  | .hbm, ⟨6, _⟩ => ⟨S16x128x128, .f32⟩
  | .hbm, ⟨7, _⟩ => ⟨S16x256, .f32⟩
  | .hbm, ⟨8, _⟩ => ⟨S16, .f32⟩
  | .hbm, ⟨9, _⟩ => ⟨S16x1, .f32⟩
  | .hbm, ⟨10, _⟩ => ⟨S2048x128, .f32⟩
  | .hbm, ⟨11, _⟩ => ⟨S1x16, .f32⟩
  | .hbm, ⟨12, _⟩ => ⟨S32x1, .f32⟩
  | .hbm, ⟨13, _⟩ => ⟨S32, .f32⟩
  | .local _ .vmem, ⟨0, _⟩ => ⟨S4x512x256, .f32⟩
  | .local _ .vmem, ⟨1, _⟩ => ⟨S4x512x256, .f32⟩
  | .local _ .vmem, ⟨2, _⟩ => ⟨S4x512x256, .f32⟩
  | .local _ .vmem, ⟨3, _⟩ => ⟨S4x512x256, .f32⟩
  | .local _ .vmem, ⟨4, _⟩ => ⟨S4x512x512, .f32⟩
  | .local _ .vmem, ⟨5, _⟩ => ⟨S4x512x512, .f32⟩
  | .local _ .vmem, ⟨6, _⟩ => ⟨S4x512x512, .f32⟩
  | .local _ .vmem, ⟨7, _⟩ => ⟨S4x512x512, .f32⟩
  | .local _ .vmem, ⟨8, _⟩ => ⟨S256x256, .f32⟩
  | .local _ .vmem, ⟨9, _⟩ => ⟨S256x128, .f32⟩
  | .local _ .vmem, ⟨10, _⟩ => ⟨S2048x128, .f32⟩
  | .local _ .vmem, ⟨11, _⟩ => ⟨S16x256, .f32⟩
  | .local _ .vmem, ⟨12, _⟩ => ⟨S1x16, .f32⟩
  | .local _ .vmem, ⟨13, _⟩ => ⟨S16x1, .f32⟩
  | .local _ .vmem, ⟨14, _⟩ => ⟨S32x1, .f32⟩
  | .local _ .vmem, ⟨15, _⟩ => ⟨S64x128, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c4_i32 : BitVec 32 := 4#32
  let v35 : BitVec 32 := Scalar.muli arg0 c4_i32
  let v36 : BitVec 32 := Scalar.addi v35 c0_i32
  let v120 : Index := Scalar.indexCast v36
  let c0_111 : Index := 0#32
  ![v120.toNat, 0]
def k0_off2 (i : grid0.Coords) (c0_i32_52 : BitVec 32) : Fin 2 → Nat :=
  let arg0 : BitVec 32 := BitVec.ofNat 32 (i 0).val
  let c4_i32_51 : BitVec 32 := 4#32
  let v43 : BitVec 32 := Scalar.muli arg0 c4_i32_51
  let v44 : BitVec 32 := Scalar.addi v43 c0_i32_52
  let c32_i32 : BitVec 32 := 32#32
  let v45 : BitVec 32 := Scalar.addi v44 c32_i32
  let v140 : Index := Scalar.indexCast v45
  let c0_119 : Index := 0#32
  ![v140.toNat, 0]
def k0_cond1 (i : grid0.Coords) : BitVec 1 :=
  let arg0 : BitVec 32 := BitVec.ofNat 32 (i 0).val
  let c7_i32 : BitVec 32 := 7#32
  let v159 : BitVec 1 := Scalar.cmpi .eq arg0 c7_i32
  let v160 : BitVec 32 := Scalar.extui v159
  let c0_i32_126 : BitVec 32 := 0#32
  let v161 : BitVec 1 := Scalar.cmpi .ne v160 c0_i32_126
  v161

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S32x512x256 : Shape := ⟨3, ![32, 512, 256]⟩
abbrev S32x512x512 : Shape := ⟨3, ![32, 512, 512]⟩
abbrev S256x256 : Shape := ⟨2, ![256, 256]⟩
abbrev S256x128 : Shape := ⟨2, ![256, 128]⟩
abbrev S16x128x128 : Shape := ⟨3, ![16, 128, 128]⟩
abbrev S16x256 : Shape := ⟨2, ![16, 256]⟩
abbrev S16 : Shape := ⟨1, ![16]⟩
abbrev S16x1 : Shape := ⟨2, ![16, 1]⟩
abbrev S_ : Shape := ⟨0, ![]⟩
abbrev S32x512x128 : Shape := ⟨3, ![32, 512, 128]⟩
abbrev S32x128 : Shape := ⟨2, ![32, 128]⟩
abbrev S32x16x128 : Shape := ⟨3, ![32, 16, 128]⟩
abbrev S32x16 : Shape := ⟨2, ![32, 16]⟩
abbrev S32x256 : Shape := ⟨2, ![32, 256]⟩
abbrev S256x16 : Shape := ⟨2, ![256, 16]⟩
abbrev S1x16 : Shape := ⟨2, ![1, 16]⟩
abbrev S32x1 : Shape := ⟨2, ![32, 1]⟩
abbrev S32 : Shape := ⟨1, ![32]⟩

abbrev nBuf : Space → Nat
  | .hbm => 54
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S32x512x256, .f32⟩
  | .hbm, ⟨2, _⟩ => ⟨S32x512x512, .f32⟩
  | .hbm, ⟨3, _⟩ => ⟨S32x512x512, .f32⟩
  | .hbm, ⟨4, _⟩ => ⟨S256x256, .f32⟩
  | .hbm, ⟨5, _⟩ => ⟨S256x128, .f32⟩
  | .hbm, ⟨6, _⟩ => ⟨S16x128x128, .f32⟩
  | .hbm, ⟨7, _⟩ => ⟨S16x256, .f32⟩
  | .hbm, ⟨8, _⟩ => ⟨S16, .f32⟩
  | .hbm, ⟨9, _⟩ => ⟨S16x1, .f32⟩
  | .hbm, ⟨10, _⟩ => ⟨S32x512x256, .f32⟩
  | .hbm, ⟨11, _⟩ => ⟨S32x512x256, .f32⟩
  | .hbm, ⟨12, _⟩ => ⟨S_, .f32⟩
  | .hbm, ⟨13, _⟩ => ⟨S32x512x256, .f32⟩
  | .hbm, ⟨14, _⟩ => ⟨S32x512x256, .f32⟩
  | .hbm, ⟨15, _⟩ => ⟨S32x512x128, .f32⟩
  | .hbm, ⟨16, _⟩ => ⟨S32x512x128, .f32⟩
  | .hbm, ⟨17, _⟩ => ⟨S_, .f32⟩
  | .hbm, ⟨18, _⟩ => ⟨S32x512x128, .f32⟩
  | .hbm, ⟨19, _⟩ => ⟨S32x512x128, .f32⟩
  | .hbm, ⟨20, _⟩ => ⟨S_, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x512x256, .f32⟩
  | .hbm, ⟨26, _⟩ => ⟨S32x512x256, .f32⟩
  | .hbm, ⟨27, _⟩ => ⟨S_, .f32⟩
  | .hbm, ⟨28, _⟩ => ⟨S32x512x256, .f32⟩
  | .hbm, ⟨29, _⟩ => ⟨S32x512x256, .f32⟩
  | .hbm, ⟨30, _⟩ => ⟨S32x512x128, .f32⟩
  | .hbm, ⟨31, _⟩ => ⟨S32x512x128, .f32⟩
  | .hbm, ⟨32, _⟩ => ⟨S_, .f32⟩
  | .hbm, ⟨33, _⟩ => ⟨S32x512x128, .f32⟩
  | .hbm, ⟨34, _⟩ => ⟨S32x512x128, .f32⟩
  | .hbm, ⟨35, _⟩ => ⟨S_, .f32⟩
  | .hbm, ⟨36, _⟩ => ⟨S32x128, .f32⟩
  | .hbm, ⟨37, _⟩ => ⟨S_, .f32⟩
  | .hbm, ⟨38, _⟩ => ⟨S32x128, .f32⟩
  | .hbm, ⟨39, _⟩ => ⟨S32x128, .f32⟩
  | .hbm, ⟨40, _⟩ => ⟨S32x16x128, .f32⟩
  | .hbm, ⟨41, _⟩ => ⟨S32x16, .f32⟩
  | .hbm, ⟨42, _⟩ => ⟨S32x256, .f32⟩
  | .hbm, ⟨43, _⟩ => ⟨S256x16, .f32⟩
  | .hbm, ⟨44, _⟩ => ⟨S32x16, .f32⟩
  | .hbm, ⟨45, _⟩ => ⟨S32x16, .f32⟩
  | .hbm, ⟨46, _⟩ => ⟨S1x16, .f32⟩
  | .hbm, ⟨47, _⟩ => ⟨S32x16, .f32⟩
  | .hbm, ⟨48, _⟩ => ⟨S32x16, .f32⟩
  | .hbm, ⟨49, _⟩ => ⟨S_, .f32⟩
  | .hbm, ⟨50, _⟩ => ⟨S32x16, .f32⟩
  | .hbm, ⟨51, _⟩ => ⟨S32x16, .f32⟩
  | .hbm, ⟨52, _⟩ => ⟨S32x1, .f32⟩
  | .hbm, ⟨53, _⟩ => ⟨S32, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call2_cst : Ref sig .tc := ⟨.hbm, 27, rfl⟩
abbrev main_call2_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call3_cst : Ref sig .tc := ⟨.hbm, 32, rfl⟩
abbrev main_call3_v0 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call4_cst : Ref sig .tc := ⟨.hbm, 49, rfl⟩
abbrev main_call4_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.Scratch.lean ====
/- The scratch array of the kernel as a function: what the eight row stores of one grid point leave in it, and the
   value of one graph tower as the kernel computes it. -/
module

public import proofs.«01_k».proof.Proof.Gen.KernelIdeal.Frame
public import proofs.«01_k».proof.Proof.Gen.KernelIdeal.Skeleton
public import Idealize.ShloMosaic.Lib.Pointwise

@[expose] public section

set_option maxRecDepth 16384

noncomputable section

namespace Cert.KernelIdeal.Ntn

open Idealize.ShloMosaic Idealize.ShloMosaic.TcCoe Idealize.ShloMosaic.Tactic
open Idealize.SL.Sem
open Cert.KernelIdeal Cert.KernelIdeal.Gen

variable {F : FTy → Type} [FloatOps F]

/-! ## One tower -/

/-- Graph `r` of a block of four feature matrices. -/
def feat (x : Vec F S4x512x256 .f32) (r : Fin 4) : Vec F S1x512x256 .f32 := fun y => x (ix3 r (y 1) (y 2))
/-- Graph `r` of a block of four Laplacians. -/
def lapl (l : Vec F S4x512x512 .f32) (r : Fin 4) : Vec F S1x512x512 .f32 := fun y => l (ix3 r (y 1) (y 2))

/-- The embedding of one graph: two graph layers, then the mean over the nodes as a product with a constant row. -/
def tower (w1 : Vec F S256x256 .f32) (w2 : Vec F S256x128 .f32) (x : Vec F S1x512x256 .f32) (l : Vec F S1x512x512 .f32) :
    Vec F S1x128 .f32 :=
  k0_pay40 k0_pay6 (k0_pay31 w2 (k0_pay15 l) (k0_pay24 w1 (k0_pay7 x) (k0_pay15 l)))

/-- A load of one matrix of the block of features is that graph's matrix. -/
theorem ld_feat (x : Vec F S4x512x256 .f32) (r : Fin 4) (h : ∀ a, (![r.val, 0, 0] : Fin 3 → ℕ) a + S1x512x256.size a ≤ S4x512x256.size a) :
    View.ld (Val := Elt F) x (Rect.unit (s := S4x512x256) ![r.val, 0, 0] S1x512x256.size h) = feat x r := by
  funext y
  obtain ⟨a, b, d, rfl⟩ : ∃ (a : Fin 1) (b : Fin 512) (d : Fin 256), y = ix3 a b d := ⟨y 0, y 1, y 2, eq_ix3 y⟩
  show x _ = x _
  congr 1; funext k; apply Fin.ext
  fin_cases a
  fin_cases k <;> simp [LoadRect.idx, Rect.emb, Rect.unit, Rect.toLoadRect] <;> rfl
/-- A load of one Laplacian of the block is that graph's Laplacian. -/
theorem ld_lapl (x : Vec F S4x512x512 .f32) (r : Fin 4) (h : ∀ a, (![r.val, 0, 0] : Fin 3 → ℕ) a + S1x512x512.size a ≤ S4x512x512.size a) :
    View.ld (Val := Elt F) x (Rect.unit (s := S4x512x512) ![r.val, 0, 0] S1x512x512.size h) = lapl x r := by
  funext y
  obtain ⟨a, b, d, rfl⟩ : ∃ (a : Fin 1) (b : Fin 512) (d : Fin 512), y = ix3 a b d := ⟨y 0, y 1, y 2, eq_ix3 y⟩
  show x _ = x _
  congr 1; funext k; apply Fin.ext
  fin_cases a
  fin_cases k <;> simp [LoadRect.idx, Rect.emb, Rect.unit, Rect.toLoadRect] <;> rfl

/-! ## The rows one grid point stores -/

/-- Four rows written into the upper half and four into the lower half of the scratch, at rows `4 b, …, 4 b + 3` of each
    half; the rest as it was. -/
def fill (b : ℕ) (P Q : Fin 4 → Vec F S1x128 .f32) (d : Vec F S64x128 .f32) : Vec F S64x128 .f32 := fun y =>
  if (y 0).val % 32 / 4 = b then
    (if (y 0).val < 32 then P ⟨(y 0).val % 4, Nat.mod_lt _ (by omega)⟩ else Q ⟨(y 0).val % 4, Nat.mod_lt _ (by omega)⟩) (ix2 0 (y 1))
  else d y

/-- The row of the upper half that the kernel computes is `4 i + r`. -/
theorem off1_eq : ∀ i : grid0.Coords, ∀ r : Fin 4, k0_off1 i (BitVec.ofNat 32 r.val) = ![4 * (i 0).val + r.val, 0] := by
  decide +kernel
/-- The row of the lower half that the kernel computes is `4 i + r + 32`. -/
theorem off2_eq : ∀ i : grid0.Coords, ∀ r : Fin 4, k0_off2 i (BitVec.ofNat 32 r.val) = ![4 * (i 0).val + r.val + 32, 0] := by
  decide +kernel

/-- The store of row `r` into the upper half. -/
def up (i : grid0.Coords) (P : Fin 4 → Vec F S1x128 .f32) (r : Fin 4) : View.Piece (Elt F) S64x128 .f32 :=
  ⟨Rect.unit (s := S64x128) (k0_off1 i (BitVec.ofNat 32 r.val)) S1x128.size (Gen.k0_off1_inb i r), P r⟩
/-- The store of row `r` into the lower half. -/
def lo (i : grid0.Coords) (Q : Fin 4 → Vec F S1x128 .f32) (r : Fin 4) : View.Piece (Elt F) S64x128 .f32 :=
  ⟨Rect.unit (s := S64x128) (k0_off2 i (BitVec.ofNat 32 r.val)) S1x128.size (Gen.k0_off2_inb i r), Q r⟩
/-- The eight stores of a grid point, the last one first. -/
def stores (i : grid0.Coords) (P Q : Fin 4 → Vec F S1x128 .f32) : List (View.Piece (Elt F) S64x128 .f32) :=
  [lo i Q 3, lo i Q 2, lo i Q 1, lo i Q 0, up i P 3, up i P 2, up i P 1, up i P 0]

/-- Every store of a grid point is one of the four into the upper or the four into the lower half. -/
theorem mem_stores (i : grid0.Coords) (P Q : Fin 4 → Vec F S1x128 .f32) (p : View.Piece (Elt F) S64x128 .f32) :
    p ∈ stores i P Q ↔ (∃ r, p = up i P r) ∨ ∃ r, p = lo i Q r := by
  simp only [stores, List.mem_cons, List.not_mem_nil, or_false]
  constructor
  · rintro (h | h | h | h | h | h | h | h)
    · exact .inr ⟨3, h⟩
    · exact .inr ⟨2, h⟩
    · exact .inr ⟨1, h⟩
    · exact .inr ⟨0, h⟩
    · exact .inl ⟨3, h⟩
    · exact .inl ⟨2, h⟩
    · exact .inl ⟨1, h⟩
    · exact .inl ⟨0, h⟩
  · rintro (⟨r, rfl⟩ | ⟨r, rfl⟩) <;> fin_cases r <;> simp

/-- A place is under the store of row `r` into the upper half exactly when it is in that row. -/
theorem mem_up (i : grid0.Coords) (P : Fin 4 → Vec F S1x128 .f32) (r : Fin 4) (y : S64x128.Idx) :
    y ∈ (up i P r).1.set ↔ (y 0).val = 4 * (i 0).val + r.val := by
  unfold up
  rw [Rect.mem_set_unit, off1_eq, Fin.forall_fin_two]
  have h1 : (y 1).val < 128 := (y 1).isLt
  show (4 * (i 0).val + r.val ≤ (y 0).val ∧ (y 0).val < 4 * (i 0).val + r.val + 1) ∧ (0 ≤ (y 1).val ∧ (y 1).val < 0 + 128) ↔ _
  omega
/-- The same for the lower half. -/
theorem mem_lo (i : grid0.Coords) (Q : Fin 4 → Vec F S1x128 .f32) (r : Fin 4) (y : S64x128.Idx) :
    y ∈ (lo i Q r).1.set ↔ (y 0).val = 4 * (i 0).val + r.val + 32 := by
  unfold lo
  rw [Rect.mem_set_unit, off2_eq, Fin.forall_fin_two]
  have h1 : (y 1).val < 128 := (y 1).isLt
  show (4 * (i 0).val + r.val + 32 ≤ (y 0).val ∧ (y 0).val < 4 * (i 0).val + r.val + 32 + 1) ∧ (0 ≤ (y 1).val ∧ (y 1).val < 0 + 128) ↔ _
  omega

/-- A store of a row puts lane `x 1` of the row at column `x 1`. -/
theorem emb_lane {off : Fin 2 → ℕ} {n : ℕ} (ho : off = ![n, 0]) (h : ∀ a, off a + S1x128.size a ≤ S64x128.size a) (x : S1x128.Idx) :
    (((Rect.unit (s := S64x128) off S1x128.size h).emb x 0).val = n) ∧ x = ix2 0 ((Rect.unit (s := S64x128) off S1x128.size h).emb x 1) := by
  subst ho
  obtain ⟨a, b, rfl⟩ : ∃ (a : Fin 1) (b : Fin 128), x = ix2 a b := ⟨x 0, x 1, eq_ix2 x⟩
  fin_cases a
  refine ⟨by simp [Rect.emb, Rect.unit], ?_⟩
  funext k; apply Fin.ext
  fin_cases k <;> simp [Rect.emb, Rect.unit] <;> rfl

/-- The eight stores of a grid point leave the scratch filled at that point's rows. -/
theorem read_stores {κ : Kind} {sp : Space} (v : View sig κ sp S64x128 .f32) (f : v.ty.Contents (Elt F)) (i : grid0.Coords)
    (P Q : Fin 4 → Vec F S1x128 .f32) :
    v.read (Elt F) (v.writes (Elt F) f (stores i P Q)) = fill (i 0).val P Q (v.read (Elt F) f) := by
  funext y
  have hi : (i 0).val < 8 := (i 0).isLt
  have hy : (y 0).val < 64 := (y 0).isLt
  by_cases h : (y 0).val % 32 / 4 = (i 0).val
  · have hc : ∃ p ∈ stores i P Q, y ∈ p.1.set := by
      by_cases h32 : (y 0).val < 32
      · refine ⟨up i P ⟨(y 0).val % 4, Nat.mod_lt _ (by omega)⟩, (mem_stores i P Q _).mpr (.inl ⟨_, rfl⟩), (mem_up ..).mpr ?_⟩
        show _ = 4 * (i 0).val + (y 0).val % 4
        omega
      · refine ⟨lo i Q ⟨(y 0).val % 4, Nat.mod_lt _ (by omega)⟩, (mem_stores i P Q _).mpr (.inr ⟨_, rfl⟩), (mem_lo ..).mpr ?_⟩
        show _ = 4 * (i 0).val + (y 0).val % 4 + 32
        omega
    refine View.read_writes_apply_of_pieces v f (fill (i 0).val P Q (v.read (Elt F) f)) _ ?_ y hc
    intro p hp x
    rcases (mem_stores i P Q p).mp hp with ⟨r, rfl⟩ | ⟨r, rfl⟩
    · obtain ⟨h0, h1⟩ := emb_lane (off1_eq i r) (Gen.k0_off1_inb i r) x
      have hr := r.isLt
      show P r x = fill _ P Q _ ((Rect.unit (s := S64x128) (k0_off1 i (BitVec.ofNat 32 r.val)) S1x128.size (Gen.k0_off1_inb i r)).emb x)
      unfold fill
      rw [if_pos (by rw [h0]; omega), if_pos (by rw [h0]; omega)]
      conv_lhs => rw [h1]
      congr 2
      apply Fin.ext
      show _ = _ % 4
      rw [h0]; omega
    · obtain ⟨h0, h1⟩ := emb_lane (off2_eq i r) (Gen.k0_off2_inb i r) x
      have hr := r.isLt
      show Q r x = fill _ P Q _ ((Rect.unit (s := S64x128) (k0_off2 i (BitVec.ofNat 32 r.val)) S1x128.size (Gen.k0_off2_inb i r)).emb x)
      unfold fill
      rw [if_pos (by rw [h0]; omega), if_neg (by rw [h0]; omega)]
      conv_lhs => rw [h1]
      congr 2
      apply Fin.ext
      show _ = _ % 4
      rw [h0]; omega
  · rw [View.read_writes_apply_of_forall_not_mem]
    · unfold fill; rw [if_neg h]
    · intro p hp hm
      rcases (mem_stores i P Q p).mp hp with ⟨r, rfl⟩ | ⟨r, rfl⟩
      · have := (mem_up ..).mp hm; have hr := r.isLt; omega
      · have := (mem_lo ..).mp hm; have hr := r.isLt; omega

/-! ## The last grid point -/

/-- The upper half of the scratch: the first graphs' embeddings. -/
def upper (d : Vec F S64x128 .f32) : Vec F S32x128 .f32 := fun y => d (ix2 ⟨(y 0).val, Nat.lt_trans (y 0).isLt (by decide)⟩ (y 1))
/-- The lower half of the scratch: the second graphs' embeddings. -/
def lower (d : Vec F S64x128 .f32) : Vec F S32x128 .f32 := fun y => d (ix2 ⟨32 + (y 0).val, Nat.add_lt_add_left (y 0).isLt 32⟩ (y 1))

/-- The tensor layer, from the two halves' embeddings and the last layers' weights, as the kernel computes it. -/
def tensorLayer (e1 e2 : Vec F S32x128 .f32) (wt : Vec F S2048x128 .f32) (v : Vec F S16x256 .f32) (b : Vec F S1x16 .f32)
    (w : Vec F S16x1 .f32) : Vec F S32x1 .f32 :=
  k0_pay2 e2 (k0_pay3 e1 e2 wt) (k0_pay4 e1 v) (k0_pay5 v) (constant S32x16 .f32 0x00000000#32) b w

/-- A load of the first 32 rows is the upper half. -/
theorem ld_upper (d : Vec F S64x128 .f32) (h : ∀ a, (![0, 0] : Fin 2 → ℕ) a + S32x128.size a ≤ S64x128.size a) :
    View.ld (Val := Elt F) d (Rect.unit (s := S64x128) ![0, 0] S32x128.size h) = upper d := by
  funext y
  show d _ = d _
  congr 1; funext k; apply Fin.ext
  fin_cases k <;> simp [LoadRect.idx, Rect.emb, Rect.unit, Rect.toLoadRect] <;> rfl
/-- A load of the last 32 rows is the lower half. -/
theorem ld_lower (d : Vec F S64x128 .f32) (h : ∀ a, (![32, 0] : Fin 2 → ℕ) a + S32x128.size a ≤ S64x128.size a) :
    View.ld (Val := Elt F) d (Rect.unit (s := S64x128) ![32, 0] S32x128.size h) = lower d := by
  funext y
  show d _ = d _
  congr 1; funext k; apply Fin.ext
  fin_cases k <;> simp [LoadRect.idx, Rect.emb, Rect.unit, Rect.toLoadRect] <;> rfl

end Cert.KernelIdeal.Ntn

end
-- ==== Proof.Body.lean ====
/- The kernel's body at one grid point, run: what it leaves in the scratch and, at the last point, in the output block. -/
module

public import proofs.«01_k».proof.Proof.Scratch

@[expose] public section

set_option maxRecDepth 16384

noncomputable section

namespace Cert.KernelIdeal.Ntn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The scratch after one grid point: that point's eight embeddings in their rows. -/
def pointStores (i : grid0.Coords) (x0 x1 : Vec F S4x512x256 .f32) (x2 x3 : Vec F S4x512x512 .f32) (x4 : Vec F S256x256 .f32)
    (x5 : Vec F S256x128 .f32) (d : Vec F S64x128 .f32) : Vec F S64x128 .f32 :=
  fill (i 0).val (fun r => tower x4 x5 (feat x0 r) (lapl x2 r)) (fun r => tower x4 x5 (feat x1 r) (lapl x3 r)) d

/-- A tower read from loads of one graph's matrices. -/
theorem tower_ld (x : Vec F S4x512x256 .f32) (l : Vec F S4x512x512 .f32) (w1 : Vec F S256x256 .f32) (w2 : Vec F S256x128 .f32) (r : Fin 4)
    (h : ∀ a, (![r.val, 0, 0] : Fin 3 → ℕ) a + S1x512x256.size a ≤ S4x512x256.size a)
    (h' : ∀ a, (![r.val, 0, 0] : Fin 3 → ℕ) a + S1x512x512.size a ≤ S4x512x512.size a)
    (h1 : ∀ a, (![0, 0] : Fin 2 → ℕ) a + S256x256.size a ≤ S256x256.size a)
    (h2 : ∀ a, (![0, 0] : Fin 2 → ℕ) a + S256x128.size a ≤ S256x128.size a) :
    tower (View.ld (Val := Elt F) w1 (Rect.unit (s := S256x256) ![0, 0] S256x256.size h1))
        (View.ld (Val := Elt F) w2 (Rect.unit (s := S256x128) ![0, 0] S256x128.size h2))
        (View.ld (Val := Elt F) x (Rect.unit (s := S4x512x256) ![r.val, 0, 0] S1x512x256.size h))
        (View.ld (Val := Elt F) l (Rect.unit (s := S4x512x512) ![r.val, 0, 0] S1x512x512.size h'))
      = tower w1 w2 (feat x r) (lapl l r) := by
  have e : (![0, 0] : Fin 2 → ℕ) = fun _ => 0 := by funext a; fin_cases a <;> rfl
  rw [ld_feat, ld_lapl, View.ld_unit_zero (S := S256x256) e, View.ld_unit_zero (S := S256x128) e]

/-- The four towers of a block, each from loads of its graph's matrices. -/
def ldTower (w1 : Vec F S256x256 .f32) (w2 : Vec F S256x128 .f32) (x : Vec F S4x512x256 .f32) (l : Vec F S4x512x512 .f32) (r : Fin 4) :
    Vec F S1x128 .f32 :=
  tower (View.ld (Val := Elt F) w1 (Rect.unit (s := S256x256) ![0, 0] S256x256.size inb_S256x256_S256x256_0_0))
    (View.ld (Val := Elt F) w2 (Rect.unit (s := S256x128) ![0, 0] S256x128.size inb_S256x128_S256x128_0_0))
    (View.ld (Val := Elt F) x (Rect.unit (s := S4x512x256) ![r.val, 0, 0] S1x512x256.size (by revert r; decide +kernel)))
    (View.ld (Val := Elt F) l (Rect.unit (s := S4x512x512) ![r.val, 0, 0] S1x512x512.size (by revert r; decide +kernel)))

/-- The eight stores of towers computed from loads leave the scratch at `fill` of the towers. -/
theorem read_rows {κ : Kind} {sp : Space} (v : View sig κ sp S64x128 .f32) (f : v.ty.Contents (Elt F)) (i : grid0.Coords)
    (x0 x1 : Vec F S4x512x256 .f32) (x2 x3 : Vec F S4x512x512 .f32) (x4 : Vec F S256x256 .f32) (x5 : Vec F S256x128 .f32) :
    v.read (Elt F) (v.writes (Elt F) f (stores i (ldTower x4 x5 x0 x2) (ldTower x4 x5 x1 x3)))
      = pointStores i x0 x1 x2 x3 x4 x5 (v.read (Elt F) f) := by
  rw [read_stores, pointStores]
  congr 1 <;> funext r <;> exact tower_ld ..

/-- One store of the whole output block leaves its payload there. -/
theorem read_out {κ : Kind} {sp : Space} (v : View sig κ sp S32x1 .f32) (f : v.ty.Contents (Elt F))
    (h : ∀ a, (![0, 0] : Fin 2 → ℕ) a + S32x1.size a ≤ S32x1.size a) (w : Vec F S32x1 .f32) :
    v.read (Elt F) (v.writes (Elt F) f [⟨Rect.unit (s := S32x1) ![0, 0] S32x1.size h, w⟩]) = w := by
  funext y
  refine View.read_writes_cons_hit_of_coords v f (Rect.unit (s := S32x1) ![0, 0] S32x1.size h) w [] y y fun a => ?_
  fin_cases a <;> simp [Rect.unit]

/-- The tensor layer read from loads of the scratch and of the whole weights. -/
theorem tensorLayer_ld (s : Vec F S64x128 .f32) (x6 : Vec F S2048x128 .f32) (x7 : Vec F S16x256 .f32) (x8 : Vec F S1x16 .f32)
    (x9 : Vec F S16x1 .f32) :
    k0_pay2 (View.ld (Val := Elt F) s (Rect.unit (s := S64x128) ![32, 0] S32x128.size inb_S64x128_S32x128_32_0))
      (k0_pay3 (View.ld (Val := Elt F) s (Rect.unit (s := S64x128) ![0, 0] S32x128.size inb_S64x128_S32x128_0_0))
        (View.ld (Val := Elt F) s (Rect.unit (s := S64x128) ![32, 0] S32x128.size inb_S64x128_S32x128_32_0))
        (View.ld (Val := Elt F) x6 (Rect.unit (s := S2048x128) ![0, 0] S2048x128.size inb_S2048x128_S2048x128_0_0)))
      (k0_pay4 (View.ld (Val := Elt F) s (Rect.unit (s := S64x128) ![0, 0] S32x128.size inb_S64x128_S32x128_0_0))
        (View.ld (Val := Elt F) x7 (Rect.unit (s := S16x256) ![0, 0] S16x256.size inb_S16x256_S16x256_0_0)))
      (k0_pay5 (View.ld (Val := Elt F) x7 (Rect.unit (s := S16x256) ![0, 0] S16x256.size inb_S16x256_S16x256_0_0)))
      (constant S32x16 .f32 0x00000000#32)
      (View.ld (Val := Elt F) x8 (Rect.unit (s := S1x16) ![0, 0] S1x16.size inb_S1x16_S1x16_0_0))
      (View.ld (Val := Elt F) x9 (Rect.unit (s := S16x1) ![0, 0] S16x1.size inb_S16x1_S16x1_0_0))
    = tensorLayer (upper s) (lower s) x6 x7 x8 x9 := by
  have e : (![0, 0] : Fin 2 → ℕ) = fun _ => 0 := by funext a; fin_cases a <;> rfl
  rw [ld_upper, ld_lower, View.ld_unit_zero (S := S2048x128) e, View.ld_unit_zero (S := S16x256) e, View.ld_unit_zero (S := S1x16) e,
    View.ld_unit_zero (S := S16x1) e]
  rfl

set_option maxHeartbeats 1000000 in
/-- A grid point that is not the last: the eight embeddings go to their rows, the output block stays. -/
theorem run_A (c : Dev nD) (i : grid0.Coords) (arg1 : Memref sig .tc .vmem S4x512x256 .f32) (harg1 : arg1.IsWhole)
    (arg2 : Memref sig .tc .vmem S4x512x256 .f32) (harg2 : arg2.IsWhole)
    (arg3 : Memref sig .tc .vmem S4x512x512 .f32) (harg3 : arg3.IsWhole)
    (arg4 : Memref sig .tc .vmem S4x512x512 .f32) (harg4 : arg4.IsWhole)
    (arg5 : Memref sig .tc .vmem S256x256 .f32) (harg5 : arg5.IsWhole)
    (arg6 : Memref sig .tc .vmem S256x128 .f32) (harg6 : arg6.IsWhole)
    (arg7 : Memref sig .tc .vmem S2048x128 .f32) (harg7 : arg7.IsWhole)
    (arg8 : Memref sig .tc .vmem S16x256 .f32) (harg8 : arg8.IsWhole)
    (arg9 : Memref sig .tc .vmem S1x16 .f32) (harg9 : arg9.IsWhole)
    (arg10 : Memref sig .tc .vmem S16x1 .f32) (harg10 : arg10.IsWhole)
    (arg11 : Memref sig .tc .vmem S32x1 .f32) (harg11 : arg11.IsWhole)
    (arg12 : Memref sig .tc .vmem S64x128 .f32) (harg12 : arg12.IsWhole)
    (hc0 : ¬ k0_cond1 i = 1#1) (x0 x1 : Vec F S4x512x256 .f32) (x2 x3 : Vec F S4x512x512 .f32) (x4 : Vec F S256x256 .f32) (x5 : Vec F S256x128 .f32)
    (x6 : Vec F S2048x128 .f32) (x7 : Vec F S16x256 .f32) (x8 : Vec F S1x16 .f32) (x9 : Vec F S16x1 .f32) (x10 : Vec F S32x1 .f32)
    (d : Vec F S64x128 .f32)
    (E : Set ℕ) (K : PUnit → sProp 𝕄) :
    iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10 ∗ owns (c : Thread nD τ) arg12 fullShare d
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (pointStores i x0 x1 x2 x3 x4 x5 d)) -∗ K ⟨⟩))
      ⊢ wp frame (wpE (defs₀ (F := F)) Variants.none c none) E (cc0__gcntn_kernel i arg1 harg1 arg2 harg2 arg3 harg3 arg4 harg4 arg5 harg5 arg6 harg6 arg7 harg7 arg8 harg8 arg9 harg9 arg10 harg10 arg11 harg11 arg12 harg12) K := by
  simp only [cc0__gcntn_kernel_eq_skeleton]; unfold cc0__gcntn_kernel_skel
  simp only [k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  iexists _; isplitr; swap; · iexact HS
  ipureintro
  sl_unfold_words
  simp only [View.readAt_eq_ld, hf0, hf1, hf2, hf3, hf4, hf5]
  exact (read_rows arg12.view _ i x0 x1 x2 x3 x4 x5).trans (by rw [hfs])

set_option maxHeartbeats 1000000 in
/-- The last grid point: the eight embeddings go to their rows, then the tensor layer of the whole scratch goes to the output block. -/
theorem run_B (c : Dev nD) (i : grid0.Coords) (arg1 : Memref sig .tc .vmem S4x512x256 .f32) (harg1 : arg1.IsWhole)
    (arg2 : Memref sig .tc .vmem S4x512x256 .f32) (harg2 : arg2.IsWhole)
    (arg3 : Memref sig .tc .vmem S4x512x512 .f32) (harg3 : arg3.IsWhole)
    (arg4 : Memref sig .tc .vmem S4x512x512 .f32) (harg4 : arg4.IsWhole)
    (arg5 : Memref sig .tc .vmem S256x256 .f32) (harg5 : arg5.IsWhole)
    (arg6 : Memref sig .tc .vmem S256x128 .f32) (harg6 : arg6.IsWhole)
    (arg7 : Memref sig .tc .vmem S2048x128 .f32) (harg7 : arg7.IsWhole)
    (arg8 : Memref sig .tc .vmem S16x256 .f32) (harg8 : arg8.IsWhole)
    (arg9 : Memref sig .tc .vmem S1x16 .f32) (harg9 : arg9.IsWhole)
    (arg10 : Memref sig .tc .vmem S16x1 .f32) (harg10 : arg10.IsWhole)
    (arg11 : Memref sig .tc .vmem S32x1 .f32) (harg11 : arg11.IsWhole)
    (arg12 : Memref sig .tc .vmem S64x128 .f32) (harg12 : arg12.IsWhole)
    (hc0 : k0_cond1 i = 1#1) (x0 x1 : Vec F S4x512x256 .f32) (x2 x3 : Vec F S4x512x512 .f32) (x4 : Vec F S256x256 .f32) (x5 : Vec F S256x128 .f32)
    (x6 : Vec F S2048x128 .f32) (x7 : Vec F S16x256 .f32) (x8 : Vec F S1x16 .f32) (x9 : Vec F S16x1 .f32) (x10 : Vec F S32x1 .f32)
    (d : Vec F S64x128 .f32)
    (E : Set ℕ) (K : PUnit → sProp 𝕄) :
    iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10 ∗ owns (c : Thread nD τ) arg12 fullShare d
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (tensorLayer (upper (pointStores i x0 x1 x2 x3 x4 x5 d)) (lower (pointStores i x0 x1 x2 x3 x4 x5 d)) x6 x7 x8 x9)
            ∗ owns (c : Thread nD τ) arg12 fullShare (pointStores i x0 x1 x2 x3 x4 x5 d)) -∗ K ⟨⟩))
      ⊢ wp frame (wpE (defs₀ (F := F)) Variants.none c none) E (cc0__gcntn_kernel i arg1 harg1 arg2 harg2 arg3 harg3 arg4 harg4 arg5 harg5 arg6 harg6 arg7 harg7 arg8 harg8 arg9 harg9 arg10 harg10 arg11 harg11 arg12 harg12) K := by
  simp only [cc0__gcntn_kernel_eq_skeleton]; unfold cc0__gcntn_kernel_skel
  simp only [k0_part2_eq_skeleton, k0_part3_eq_skeleton, k0_part4_eq_skeleton, k0_part5_eq_skeleton, k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    sl_unfold_words
    simp only [View.readAt_eq_ld, hf0, hf1, hf2, hf3, hf4, hf5, hf6, hf7, hf8, hf9]
    refine (read_out arg11.view _ _ _).trans ?_
    refine (tensorLayer_ld (arg12.view.read (Elt F) (arg12.view.writes (Elt F) (harg12.unread d)
      (stores i (ldTower x4 x5 x0 x2) (ldTower x4 x5 x1 x3)))) x6 x7 x8 x9).trans ?_
    rw [read_rows, hfs]
  iexists _; isplitr; swap; · iexact HS
  ipureintro
  sl_unfold_words
  simp only [View.readAt_eq_ld, hf0, hf1, hf2, hf3, hf4, hf5]
  exact (read_rows arg12.view _ i x0 x1 x2 x3 x4 x5).trans (by rw [hfs])

end Cert.KernelIdeal.Ntn

end
-- ==== Proof.Launch.lean ====
/- The launch: what the pipeline's points leave, and the run of the whole program to that. -/
module

public import proofs.«01_k».proof.Proof.Body

@[expose] public section

set_option maxRecDepth 16384

noncomputable section

namespace Cert.KernelIdeal.Ntn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch comes to hold -/

/-- The point that stores row `n` of the scratch. -/
def pointOf (n : ℕ) : Fin cfg0.N := ⟨n % 32 / 4, Nat.lt_of_lt_of_eq (by omega : n % 32 / 4 < 8) N_0.symm⟩

/-- The embeddings of all the graphs: the first graphs' in the upper 32 rows, the second graphs' in the lower 32. -/
def embeddings (c : Dev nD) : Vec F S64x128 .f32 := fun y =>
  (if (y 0).val < 32 then
    tower (iblk m c 4 (pointOf (y 0).val)) (iblk m c 5 (pointOf (y 0).val))
      (feat (iblk m c 0 (pointOf (y 0).val)) ⟨(y 0).val % 4, Nat.mod_lt _ (by omega)⟩)
      (lapl (iblk m c 2 (pointOf (y 0).val)) ⟨(y 0).val % 4, Nat.mod_lt _ (by omega)⟩)
  else
    tower (iblk m c 4 (pointOf (y 0).val)) (iblk m c 5 (pointOf (y 0).val))
      (feat (iblk m c 1 (pointOf (y 0).val)) ⟨(y 0).val % 4, Nat.mod_lt _ (by omega)⟩)
      (lapl (iblk m c 3 (pointOf (y 0).val)) ⟨(y 0).val % 4, Nat.mod_lt _ (by omega)⟩)) (ix2 0 (y 1))

/-- Before point `n`, the rows of the points below `n` hold their embeddings. -/
def Known (c : Dev nD) (n : ℕ) (d : Vec F S64x128 .f32) : Prop := ∀ y : S64x128.Idx, (y 0).val % 32 / 4 < n → d y = embeddings m c y

/-- The one grid coordinate of point `t` is `t`. -/
theorem coords_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- A point's stores add its own rows to the known ones. -/
theorem Known.step {c : Dev nD} {t : Fin cfg0.N} {d : Vec F S64x128 .f32} (h : Known m c t.val d) :
    Known m c (t.val + 1) (pointStores (grid0.coords t) (iblk m c 0 t) (iblk m c 1 t) (iblk m c 2 t) (iblk m c 3 t) (iblk m c 4 t) (iblk m c 5 t) d) := by
  intro y hy
  unfold pointStores fill
  rw [coords_val]
  by_cases e : (y 0).val % 32 / 4 = t.val
  · have ep : pointOf (y 0).val = t := Fin.ext e
    rw [if_pos e]; unfold embeddings; rw [ep]
  · rw [if_neg e]; exact h y (by omega)

/-- After the last point every row is known. -/
theorem Known.all {c : Dev nD} {n : ℕ} {d : Vec F S64x128 .f32} (h : Known m c n d) (hn : 8 ≤ n) : d = embeddings m c := by
  funext y; exact h y (by omega)

/-- The output block at the last point. -/
def result (c : Dev nD) (t : Fin cfg0.N) : Vec F S32x1 .f32 :=
  tensorLayer (upper (embeddings m c)) (lower (embeddings m c)) (iblk m c 6 t) (iblk m c 7 t) (iblk m c 8 t) (iblk m c 9 t)

/-! ## The proof data -/

/-- The scratch buffer, whole. -/
abbrev scratch : Memref sig .tc .vmem S64x128 .f32 := Memref.whole cc0_scratch0

/-- The invariant between points: the scratch with the points' rows below known, and the generator register. -/
def invariant (c : Dev nD) (n : ℕ) : sProp 𝕄 :=
  iprop((∃ d, ⌜Known m c n d⌝ ∗ owns (c : Thread nD τ) scratch fullShare d) ∗ (∃ r, prngReg c r))

/-- The pipeline's data: the inputs stay at their blocks; the output block is the tensor layer of all the embeddings. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => result m c t
  Φ t := invariant m c t.val
  q _ := fullShare
  owed _ := 0

/-- The arrays are what the region finds. -/
theorem arrays_eq (c : Dev nD) (w : Fin cfg0.W) : (dats m 0 c).A w = V m c (Pipeline.arrRef spec0 w) := by
  dsimp only [dats]

/-- The class's invariant, with the scratch owned at some contents. -/
theorem classInv_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- Entering the region nothing is known of the scratch. -/
theorem inv_in (c : Dev nD) : (Pipeline.ΦA spec0 c : sProp 𝕄) ⊢ (dats m 0 c).Φ 0 := by
  rw [classInv_eq, show (dats m 0 c).Φ 0 = invariant m c 0 from rfl]; unfold invariant
  iintro ⟨⟨%d, H⟩, Hg⟩
  isplitl [H]
  · iexists d; isplitr
    · ipureintro; exact fun _ h => absurd h (Nat.not_lt_zero _)
    iexact H
  iexact Hg

/-- Leaving the region what is known of the scratch is dropped. -/
theorem inv_out (c : Dev nD) : (dats m 0 c).Φ (Fin.last cfg0.N) ⊢ (Pipeline.ΦA spec0 c : sProp 𝕄) := by
  rw [classInv_eq, show (dats m 0 c).Φ (Fin.last cfg0.N) = invariant m c (Fin.last cfg0.N).val from rfl]; unfold invariant
  iintro ⟨⟨%d, %hd, H⟩, Hg⟩
  isplitl [H]
  · iexists d; iexact H
  iexact Hg

/-- The branch condition of the last stage holds at the last point only. -/
theorem cond_iff (t : Fin cfg0.N) : k0_cond1 (grid0.coords t) = 1#1 ↔ t.val = 7 := by
  have ht : t.val < 8 := Nat.lt_of_lt_of_eq t.isLt N_0
  have e0 : (grid0.coords t 0).val = t.val := coords_val t
  simp only [k0_cond1, e0]
  word_cmp

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- An input's buffer is returned at its block. -/
theorem leaves_of (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 2400000 in
/-- The body at any point: the point's rows are stored and, at the last point, the output block. -/
theorem body_at (c : Dev nD) (t : Fin cfg0.N) :
    bodyPre m c t ⊢ wp frame (wpE (defs₀ (F := F)) Variants.none c none) Set.univ (bodyAt0 t) (fun _ => bodyPost m c t) := by
  have hN : t.val < 8 := Nat.lt_of_lt_of_eq t.isLt N_0
  unfold bodyPre bodyPost bodyAt0
  simp only [before0_0_of m (dats m 0 c) (arrays_eq m c 0) (fun _ => rfl),
    before0_1_of m (dats m 0 c) (arrays_eq m c 1) (fun _ => rfl),
    before0_2_of m (dats m 0 c) (arrays_eq m c 2) (fun _ => rfl),
    before0_3_of m (dats m 0 c) (arrays_eq m c 3) (fun _ => rfl),
    before0_4_of m (dats m 0 c) (arrays_eq m c 4) (fun _ => rfl),
    before0_5_of m (dats m 0 c) (arrays_eq m c 5) (fun _ => rfl),
    before0_6_of m (dats m 0 c) (arrays_eq m c 6) (fun _ => rfl),
    before0_7_of m (dats m 0 c) (arrays_eq m c 7) (fun _ => rfl),
    before0_8_of m (dats m 0 c) (arrays_eq m c 8) (fun _ => rfl),
    before0_9_of m (dats m 0 c) (arrays_eq m c 9) (fun _ => rfl)]
  rw [leaves_of m c 0 t rfl, leaves_of m c 1 t rfl, leaves_of m c 2 t rfl, leaves_of m c 3 t rfl, leaves_of m c 4 t rfl, leaves_of m c 5 t rfl, leaves_of m c 6 t rfl, leaves_of m c 7 t rfl, leaves_of m c 8 t rfl, leaves_of m c 9 t rfl]
  rw [show (dats m 0 c).owesAt () t.succ = (dats m 0 c).owesAt () t.castSucc from rfl,
    show (dats m 0 c).Φ t.castSucc = invariant m c t.val from rfl, show (dats m 0 c).Φ t.succ = invariant m c (t.val + 1) from rfl]
  unfold invariant
  by_cases h0 : k0_cond1 (grid0.coords t) = 1#1
  · rw [leaves_of m c 10 t (by show (!(k0_cond1 (grid0.coords t) == 1#1)) = false; simp [h0])]
    have h7 : t.val = 7 := (cond_iff t).mp h0
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hall : pointStores (grid0.coords t) (iblk m c 0 t) (iblk m c 1 t) (iblk m c 2 t) (iblk m c 3 t) (iblk m c 4 t) (iblk m c 5 t) d
      = embeddings m c := Known.all m (Known.step m hd) (by omega)
    iapply (run_B c (grid0.coords t) _ _ _ _ _ _ _ _ _ _ _ _ _ _ _ _ _ _ _ _ _ _ (Memref.whole cc0_scratch0) (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) d)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    rw [hall]
    iintro ⟨H0, H1, H2, H3, H4, H5, H6, H7, H8, H9, H10, HS⟩
    isplitl [HS Hg]
    · isplitl [HS]
      · iexists _; isplitr
        · ipureintro; exact fun _ _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hf : (cfg0.win 10).flush t = false := by
      rw [Bool.eq_false_iff]; intro h
      exact h0 ((cond_iff t).mpr (by have := (flush0_10 t).mp h; omega))
    rw [Dat.leavesExact_idle (dats m 0 c) 10 t (by show (!(k0_cond1 (grid0.coords t) == 1#1)) = true; simp [h0]) hf]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c (grid0.coords t) _ _ _ _ _ _ _ _ _ _ _ _ _ _ _ _ _ _ _ _ _ _ (Memref.whole cc0_scratch0) (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) d)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]
      · iexists _; isplitr
        · ipureintro; exact Known.step m hd
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

/-- The pipeline's row of the body table is the body. -/
theorem row_eq (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-! ## The run -/

set_option backward.isDefEq.respectTransparency.types false in
set_option maxHeartbeats 800000 in
/-- Every execution ends with the pipeline's arrays written back and every counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hin := inv_in m) (hout := inv_out m)

/-- The run without the counters. -/
theorem run_mem : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

end Cert.KernelIdeal.Ntn

end
-- ==== Proof.Math.lean ====
/- The kernel's mathematics as plain sums over the extended reals. -/
module

public import Idealize.ShloMosaic.Lib.Pointwise

@[expose] public section

noncomputable section

namespace Cert.Ntn

/-- Two graph layers at node `n` and lane `d`: each layer multiplies by its weights, then by the Laplacian, then clips at zero. -/
def layers (x : Fin 512 → Fin 256 → EReal) (l : Fin 512 → Fin 512 → EReal) (w1 : Fin 256 → Fin 256 → EReal)
    (w2 : Fin 256 → Fin 128 → EReal) (n : Fin 512) (d : Fin 128) : EReal :=
  max (∑ k, l n k * ∑ h, max (∑ p, l k p * ∑ q, x p q * w1 q h) 0 * w2 h d) 0

/-- A graph's embedding: the mean of the layers' output over the nodes. -/
def embed (x : Fin 512 → Fin 256 → EReal) (l : Fin 512 → Fin 512 → EReal) (w1 : Fin 256 → Fin 256 → EReal)
    (w2 : Fin 256 → Fin 128 → EReal) (d : Fin 128) : EReal :=
  (∑ n, layers x l w1 w2 n d) * ((1 / 512 : ℝ) : EReal)

/-- The tensor layer of two embeddings: a bilinear form, a linear form of the pair and a bias, clipped at zero, then a weighted sum. -/
def tensor (e1 e2 : Fin 128 → EReal) (wt : Fin 16 → Fin 128 → Fin 128 → EReal) (v : Fin 16 → Fin 256 → EReal) (b w : Fin 16 → EReal) : EReal :=
  ∑ k, max ((∑ i, e1 i * ∑ j, e2 j * wt k i j)
    + ((∑ i : Fin 128, e1 i * v k ⟨i.val, by omega⟩) + ∑ j : Fin 128, e2 j * v k ⟨128 + j.val, by omega⟩) + b k) 0 * w k

/-- The layers' output is not negative. -/
theorem layers_nonneg (x : Fin 512 → Fin 256 → EReal) (l : Fin 512 → Fin 512 → EReal) (w1 : Fin 256 → Fin 256 → EReal)
    (w2 : Fin 256 → Fin 128 → EReal) (n : Fin 512) (d : Fin 128) : 0 ≤ layers x l w1 w2 n d := le_max_right _ _

/-- A common factor comes out of a sum of terms none of which is negative. -/
theorem sum_mul_of_nonneg {ι : Type} (s : Finset ι) (c : EReal) (f : ι → EReal) (hf : ∀ i, 0 ≤ f i) :
    ∑ i ∈ s, c * f i = (∑ i ∈ s, f i) * c := by
  classical
  induction s using Finset.induction_on with
  | empty => simp
  | insert a s ha ih =>
    rw [Finset.sum_insert ha, Finset.sum_insert ha, ih,
      EReal.right_distrib_of_nonneg (hf a) (Finset.sum_nonneg fun i _ => hf i), mul_comm c]

/-- The mean as a product with a constant row. -/
theorem embed_eq_sum (x : Fin 512 → Fin 256 → EReal) (l : Fin 512 → Fin 512 → EReal) (w1 : Fin 256 → Fin 256 → EReal)
    (w2 : Fin 256 → Fin 128 → EReal) (d : Fin 128) :
    ∑ n, ((1 / 512 : ℝ) : EReal) * layers x l w1 w2 n d = embed x l w1 w2 d :=
  sum_mul_of_nonneg _ _ _ fun n => layers_nonneg x l w1 w2 n d

/-- A sum over 2048 rows, 128 for each of 16 slices, weighted by which slice a row is in, is the sum over that slice's rows. -/
theorem sum_slice (f : Fin 2048 → EReal) (k : Fin 16) :
    ∑ q : Fin 2048, f q * (if q.val / 128 = k.val then 1 else 0) = ∑ i : Fin 128, f ⟨128 * k.val + i.val, by omega⟩ := by
  simp only [mul_ite, mul_one, mul_zero]
  rw [← Finset.sum_filter]
  refine (Finset.sum_bij (fun (i : Fin 128) _ => (⟨128 * k.val + i.val, by omega⟩ : Fin 2048)) ?_ ?_ ?_ ?_).symm
  · intro i _
    simp only [Finset.mem_filter, Finset.mem_univ, true_and]
    omega
  · intro i _ j _ h
    have := congrArg Fin.val h
    exact Fin.ext (by simp only at this; omega)
  · intro q hq
    simp only [Finset.mem_filter, Finset.mem_univ, true_and] at hq
    exact ⟨⟨q.val % 128, by omega⟩, Finset.mem_univ _, Fin.ext (by simp only; omega)⟩
  · intro i _; rfl

/-- A sum over 256 lanes is the sum over the first 128 and the sum over the last 128. -/
theorem sum_halves (f : Fin 256 → EReal) :
    ∑ q, f q = (∑ i : Fin 128, f ⟨i.val, by omega⟩) + ∑ j : Fin 128, f ⟨128 + j.val, by omega⟩ :=
  Fin.sum_univ_add (a := 128) (b := 128) f

end Cert.Ntn

end
-- ==== Proof.Values.lean ====
/- What the kernel's pieces compute, element by element, over the extended reals. -/
module

public import proofs.«01_k».proof.Proof.Scratch
public import proofs.«01_k».proof.Proof.Math
public import Idealize.ShloMosaic.Lib.Pointwise

@[expose] public section

set_option maxRecDepth 16384

noncomputable section

namespace Cert.KernelIdeal.Ntn

open Idealize.ShloMosaic Idealize.ShloMosaic.TcCoe
open Cert.KernelIdeal Cert.KernelIdeal.Gen Cert.Ntn

/-- The constant of the mean's row is 1/512. -/
theorem inv512 : Ideal.ofBits .f32 0x3B000000#32 = ((1 / 512 : ℝ) : EReal) := by
  simp [Ideal.ofBits, Ideal.ieee, -EReal.coe_mul]; norm_num

/-- One graph's embedding as the kernel computes it, at a lane. -/
theorem tower_apply (w1 : Vec Ideal S256x256 .f32) (w2 : Vec Ideal S256x128 .f32) (x : Vec Ideal S1x512x256 .f32)
    (l : Vec Ideal S1x512x512 .f32) (d : Fin 128) :
    tower w1 w2 x l (ix2 0 d) = embed (fun n q => x (ix3 0 n q)) (fun n k => l (ix3 0 n k)) (fun a b => w1 (ix2 a b))
      (fun a b => w2 (ix2 a b)) d := by
  rw [← embed_eq_sum]
  unfold tower layers
  unfold_payloads
  pointwise
  rw [inv512]

/-- The slice a row of the weights is in, as the kernel's words say it: the row's number over 128, rounded down. -/
def sliceOf : IVec S2048x16 32 :=
  select
    (andi
      (cmpi .ne
        (subi (extui 32 (cmpi .sgt (iota .tc S2048x16 32 [0] iota_S2048x16_d0_w32) (broadcast S2048x16 0#32)) natLt_1_32)
          (extui 32 (cmpi .slt (iota .tc S2048x16 32 [0] iota_S2048x16_d0_w32) (broadcast S2048x16 0#32)) natLt_1_32))
        (broadcast S2048x16 (Scalar.subi (Scalar.extui (Scalar.cmpi .sgt 128#32 0#32)) (Scalar.extui (Scalar.cmpi .slt 128#32 0#32)))))
      (cmpi .ne (remsi (iota .tc S2048x16 32 [0] iota_S2048x16_d0_w32) (broadcast S2048x16 128#32)) (broadcast S2048x16 0#32)))
    (subi (divsi (iota .tc S2048x16 32 [0] iota_S2048x16_d0_w32) (broadcast S2048x16 128#32)) (broadcast S2048x16 1#32))
    (divsi (iota .tc S2048x16 32 [0] iota_S2048x16_d0_w32) (broadcast S2048x16 128#32))

/-- Whether a row of the weights is in a slice, as one or zero. -/
def inSlice : FVec Ideal S2048x16 .f32 :=
  sitofp .f32 (extui 32 (cmpi .eq sliceOf (iota .tc S2048x16 32 [1] iota_S2048x16_d1_w32)) natLt_1_32)

/-- The first embeddings, sixteen times side by side. -/
def tiled (e : Vec Ideal S32x128 .f32) : FVec Ideal S32x2048 .f32 :=
  concatenate S32x2048 1 (List.replicate 16 ⟨S32x128, e⟩) concatenates_S32x128_S32x128_S32x128_S32x128_S32x128_S32x128_S32x128_S32x128_S32x128_S32x128_S32x128_S32x128_S32x128_S32x128_S32x128_S32x128_S32x2048_d1

/-- The words of `sliceOf`. -/
theorem sliceOf_apply (q : Fin 2048) (k : Fin 16) : sliceOf (ix2 q k) = BitVec.ofNat 32 (q.val / 128) := by
  unfold sliceOf
  pointwise
  revert q
  decide +kernel

/-- `inSlice` at a row and a slice. -/
theorem inSlice_apply (q : Fin 2048) (k : Fin 16) : inSlice (ix2 q k) = if q.val / 128 = k.val then 1 else 0 := by
  unfold inSlice
  pointwise
  rw [sliceOf_apply]
  have hw : ∀ (n : Fin 16) (k : Fin 16), IntOp.cmpi CmpIPredicate.eq (BitVec.ofNat 32 n.val) (BitVec.ofNat 32 k.val) = if n.val = k.val then 1#1 else 0#1 := by
    decide +kernel
  rw [hw ⟨q.val / 128, by omega⟩ k]
  by_cases h : q.val / 128 = k.val
  · simp [h, FloatOps.sitofp]
  · simp [h, FloatOps.sitofp]

/-- `tiled` at a lane: the lane within its 128. -/
theorem tiled_apply (e : Vec Ideal S32x128 .f32) (r : Fin 32) (q : Fin 2048) :
    tiled e (ix2 r q) = e (ix2 r ⟨q.val % 128, Nat.mod_lt _ (by omega)⟩) := by
  unfold tiled
  refine (concatenate_replicate_apply (t := S32x2048) 1 16 e _ rfl (ix2 r q) (ix2 r ⟨q.val % 128, Nat.mod_lt _ (by omega)⟩) ?_ ?_).trans rfl
  · rfl
  · intro b hb
    match b with
    | 0 => rfl
    | 1 => exact absurd rfl hb

/-- The bilinear stage as products with `tiled` and `inSlice`. -/
theorem pay3_eq (e1 e2 : Vec Ideal S32x128 .f32) (wt : Vec Ideal S2048x128 .f32) :
    k0_pay3 e1 e2 wt = matmul (F := Ideal) (φ₁ := .f32) (φ₂ := .f32) dot_S32x2048_S2048x16_S32x16_1_0_0_1_n_n none
      (mulf (matmul (F := Ideal) (φ₁ := .f32) (φ₂ := .f32) dot_S32x128_S2048x128_S32x2048_1_1_0_0_n_n none e2 (shapeCast S2048x128 wt shapeCasts_S2048x128_S2048x128)
        (constant S32x2048 .f32 0x00000000#32)) (tiled e1)) inSlice (constant S32x16 .f32 0x00000000#32) := rfl

/-- The bilinear form at a pair and a slice. -/
theorem pay3_apply (e1 e2 : Vec Ideal S32x128 .f32) (wt : Vec Ideal S2048x128 .f32) (r : Fin 32) (k : Fin 16) :
    k0_pay3 e1 e2 wt (ix2 r k) = ∑ i : Fin 128, e1 (ix2 r i) * ∑ j : Fin 128, e2 (ix2 r j) * wt (ix2 ⟨128 * k.val + i.val, by omega⟩ j) := by
  rw [pay3_eq]
  generalize hs : inSlice = s
  generalize ht : tiled e1 = t
  pointwise
  subst hs ht
  simp only [inSlice_apply, tiled_apply]
  rw [sum_slice]
  refine Finset.sum_congr rfl fun i _ => ?_
  rw [mul_comm]
  congr 3
  exact Fin.ext (by simp only; omega)

/-- The tensor layer as the kernel computes it, at a pair. -/
theorem tensorLayer_apply (e1 e2 : Vec Ideal S32x128 .f32) (wt : Vec Ideal S2048x128 .f32) (v : Vec Ideal S16x256 .f32)
    (b : Vec Ideal S1x16 .f32) (w : Vec Ideal S16x1 .f32) (r : Fin 32) :
    tensorLayer e1 e2 wt v b w (ix2 r 0) = tensor (fun i => e1 (ix2 r i)) (fun j => e2 (ix2 r j))
      (fun k i j => wt (ix2 ⟨128 * k.val + i.val, by omega⟩ j)) (fun k q => v (ix2 k q)) (fun k => b (ix2 0 k)) (fun k => w (ix2 k 0)) := by
  unfold tensorLayer tensor
  have h3 := fun k => pay3_apply e1 e2 wt r k
  revert h3
  generalize k0_pay3 e1 e2 wt = B
  intro h3
  unfold k0_pay2 k0_pay4 k0_pay5
  pointwise
  simp only [h3]

end Cert.KernelIdeal.Ntn

end
-- ==== Proof.Result.lean ====
/- The kernel's result, read at a pair in the arguments. -/
module

public import proofs.«01_k».proof.Proof.Launch
public import proofs.«01_k».proof.Proof.Values
public import Idealize.ShloMosaic.Lib.Pipeline.ValueKit.Point
public import Idealize.ShloMosaic.Lib.Claim
public import Idealize.ShloMosaic.Lib.Tactic.CleanTypes

@[expose] public section

set_option maxRecDepth 16384

noncomputable section

namespace Cert.KernelIdeal.Ntn

open Idealize.ShloMosaic Idealize.ShloMosaic.TcCoe Idealize.ShloMosaic.Tactic
open Idealize.ShloMosaic.Pipeline (Dat Cfg Window)
open Cert.KernelIdeal Cert.KernelIdeal.Gen Cert.Ntn

variable (m : (ℓ : Loc nD τ sig) → Buf (Elt Ideal) ℓ)

/-- Where each window's block stands at each point. -/
theorem places : ∀ t : Fin cfg0.N,
    win0_0.index t = ![t.val, 0, 0] ∧ win0_1.index t = ![t.val, 0, 0] ∧ win0_2.index t = ![t.val, 0, 0] ∧ win0_3.index t = ![t.val, 0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- A point's block of the first graphs' features. -/
theorem blk0 (c : Dev nD) (t : Fin cfg0.N) (b : Fin 4) (n : Fin 512) (q : Fin 256) (h : 4 * t.val + b.val < 32) :
    iblk m c 0 t (ix3 b n q) = m ((c : Thread nD τ).loc main_arg0) (ix3 ⟨4 * t.val + b.val, h⟩ n q) := by
  blk_ext! [iblk, V, places t]

/-- A point's block of the second graphs' features. -/
theorem blk1 (c : Dev nD) (t : Fin cfg0.N) (b : Fin 4) (n : Fin 512) (q : Fin 256) (h : 4 * t.val + b.val < 32) :
    iblk m c 1 t (ix3 b n q) = m ((c : Thread nD τ).loc main_arg1) (ix3 ⟨4 * t.val + b.val, h⟩ n q) := by
  blk_ext! [iblk, V, places t]

/-- A point's block of the first graphs' Laplacians. -/
theorem blk2 (c : Dev nD) (t : Fin cfg0.N) (b : Fin 4) (n k : Fin 512) (h : 4 * t.val + b.val < 32) :
    iblk m c 2 t (ix3 b n k) = m ((c : Thread nD τ).loc main_arg2) (ix3 ⟨4 * t.val + b.val, h⟩ n k) := by
  blk_ext! [iblk, V, places t]

/-- A point's block of the second graphs' Laplacians. -/
theorem blk3 (c : Dev nD) (t : Fin cfg0.N) (b : Fin 4) (n k : Fin 512) (h : 4 * t.val + b.val < 32) :
    iblk m c 3 t (ix3 b n k) = m ((c : Thread nD τ).loc main_arg3) (ix3 ⟨4 * t.val + b.val, h⟩ n k) := by
  blk_ext! [iblk, V, places t]

/-- The first layer's weights are whole at every point. -/
theorem blk4 (c : Dev nD) (t : Fin cfg0.N) (a : Fin 256) (b : Fin 256) :
    iblk m c 4 t (ix2 a b) = m ((c : Thread nD τ).loc main_arg4) (ix2 a b) := by
  blk_ext! [iblk, V, places t]

/-- The second layer's weights are whole at every point. -/
theorem blk5 (c : Dev nD) (t : Fin cfg0.N) (a : Fin 256) (b : Fin 128) :
    iblk m c 5 t (ix2 a b) = m ((c : Thread nD τ).loc main_arg5) (ix2 a b) := by
  blk_ext! [iblk, V, places t]

/-- The bilinear weights, slice by slice along one axis. -/
theorem blk6 (c : Dev nD) (t : Fin cfg0.N) (k : Fin 16) (i j : Fin 128) (h : 128 * k.val + i.val < 2048) :
    iblk m c 6 t (ix2 ⟨128 * k.val + i.val, h⟩ j) = m ((c : Thread nD τ).loc main_arg6) (ix3 k i j) := by
  have hb : iblk m c 6 t (ix2 ⟨128 * k.val + i.val, h⟩ j) = V m c main_call0_v0 (ix2 ⟨128 * k.val + i.val, h⟩ j) := by
    blk_ext [iblk, places t]
  rw [hb]
  show StableHlo.after hostOps0 _ _ _ = _
  after_results
  show shapeCast S2048x128 (m ((c : Thread nD τ).loc main_arg6)) shapeCasts_S16x128x128_S2048x128 (ix2 ⟨128 * k.val + i.val, h⟩ j) = _
  generalize m ((c : Thread nD τ).loc main_arg6) = x
  clean_types
  pointwise

/-- The linear weights are whole at every point. -/
theorem blk7 (c : Dev nD) (t : Fin cfg0.N) (k : Fin 16) (q : Fin 256) :
    iblk m c 7 t (ix2 k q) = m ((c : Thread nD τ).loc main_arg7) (ix2 k q) := by
  blk_ext! [iblk, V, places t]

/-- The bias, as one row. -/
theorem blk8 (c : Dev nD) (t : Fin cfg0.N) (k : Fin 16) :
    iblk m c 8 t (ix2 0 k) = m ((c : Thread nD τ).loc main_arg8) (ix1 k) := by
  have hb : iblk m c 8 t (ix2 0 k) = V m c main_call0_v1 (ix2 0 k) := by
    blk_ext [iblk, places t]
  rw [hb]
  show StableHlo.after hostOps0 _ _ _ = _
  after_results
  show shapeCast S1x16 (m ((c : Thread nD τ).loc main_arg8)) shapeCasts_S16_S1x16 (ix2 0 k) = _
  generalize m ((c : Thread nD τ).loc main_arg8) = x
  clean_types
  pointwise

/-- The last weights are whole at every point. -/
theorem blk9 (c : Dev nD) (t : Fin cfg0.N) (k : Fin 16) :
    iblk m c 9 t (ix2 k 0) = m ((c : Thread nD τ).loc main_arg9) (ix2 k 0) := by
  blk_ext! [iblk, V, places t]

/-- The embedding of pair `r`'s first graph, in the arguments. -/
def first (c : Dev nD) (r : Fin 32) : Fin 128 → EReal :=
  embed (fun n q => m ((c : Thread nD τ).loc main_arg0) (ix3 r n q)) (fun n k => m ((c : Thread nD τ).loc main_arg2) (ix3 r n k))
    (fun a b => m ((c : Thread nD τ).loc main_arg4) (ix2 a b)) (fun a b => m ((c : Thread nD τ).loc main_arg5) (ix2 a b))

/-- The embedding of pair `r`'s second graph, in the arguments. -/
def second (c : Dev nD) (r : Fin 32) : Fin 128 → EReal :=
  embed (fun n q => m ((c : Thread nD τ).loc main_arg1) (ix3 r n q)) (fun n k => m ((c : Thread nD τ).loc main_arg3) (ix3 r n k))
    (fun a b => m ((c : Thread nD τ).loc main_arg4) (ix2 a b)) (fun a b => m ((c : Thread nD τ).loc main_arg5) (ix2 a b))

/-- A point and a row within it are a pair. -/
theorem pair_of (r : Fin 32) (n : ℕ) (hn : n % 32 = r.val) (b : Fin 4) (hb : b.val = n % 4) :
    ∃ h : 4 * (pointOf n).val + b.val < 32, (⟨4 * (pointOf n).val + b.val, h⟩ : Fin 32) = r := by
  have hp : (pointOf n).val = n % 32 / 4 := rfl
  refine ⟨by omega, Fin.ext ?_⟩
  simp only
  omega

/-- The upper rows of the scratch are the first graphs' embeddings. -/
theorem upper_apply (c : Dev nD) (r : Fin 32) (d : Fin 128) : upper (embeddings m c) (ix2 r d) = first m c r d := by
  obtain ⟨h, e⟩ := pair_of r r.val (by omega) ⟨r.val % 4, by omega⟩ rfl
  refine (congrFun (if_pos r.isLt) (ix2 0 d)).trans ((tower_apply _ _ _ _ d).trans ?_)
  unfold feat lapl first
  simp only [ix3_1, ix3_2, blk4, blk5]
  congr 1
  · funext n q
    exact (blk0 m c _ _ n q h).trans (congrArg (fun z => m ((c : Thread nD τ).loc main_arg0) (ix3 z n q)) e)
  · funext n k
    exact (blk2 m c _ _ n k h).trans (congrArg (fun z => m ((c : Thread nD τ).loc main_arg2) (ix3 z n k)) e)

/-- The lower rows of the scratch are the second graphs' embeddings. -/
theorem lower_apply (c : Dev nD) (r : Fin 32) (d : Fin 128) : lower (embeddings m c) (ix2 r d) = second m c r d := by
  obtain ⟨h, e⟩ := pair_of r (32 + r.val) (by omega) ⟨(32 + r.val) % 4, by omega⟩ rfl
  refine (congrFun (if_neg (by omega : ¬32 + r.val < 32)) (ix2 0 d)).trans ((tower_apply _ _ _ _ d).trans ?_)
  unfold feat lapl second
  simp only [ix3_1, ix3_2, blk4, blk5]
  congr 1
  · funext n q
    exact (blk1 m c _ _ n q h).trans (congrArg (fun z => m ((c : Thread nD τ).loc main_arg1) (ix3 z n q)) e)
  · funext n k
    exact (blk3 m c _ _ n k h).trans (congrArg (fun z => m ((c : Thread nD τ).loc main_arg3) (ix3 z n k)) e)

/-- What the kernel's output array holds at a pair. -/
theorem result_apply (c : Dev nD) (t : Fin cfg0.N) (r : Fin 32) :
    result m c t (ix2 r 0) = tensor (first m c r) (second m c r) (fun k i j => m ((c : Thread nD τ).loc main_arg6) (ix3 k i j))
      (fun k q => m ((c : Thread nD τ).loc main_arg7) (ix2 k q)) (fun k => m ((c : Thread nD τ).loc main_arg8) (ix1 k))
      (fun k => m ((c : Thread nD τ).loc main_arg9) (ix2 k 0)) := by
  unfold result
  rw [tensorLayer_apply]
  simp only [upper_apply, lower_apply, blk6, blk7, blk8, blk9]

/-- The output array after the run. -/
theorem output (c : Dev nD) : (dats m 0 c).arrAt 10 cfg0.N = result m c ⟨7, Nat.lt_of_lt_of_eq (by omega : 7 < 8) N_0.symm⟩ := by
  refine (dats m 0 c).arrAt_eq_of_covers 10 _ (by decide +kernel) fun t hf y => ?_
  blk_simp
  have he : (win0_10.blk t).view.emb y = y := by
    blk_ext [places t]
  have ht : t = ⟨7, Nat.lt_of_lt_of_eq (by omega : 7 < 8) N_0.symm⟩ := by
    exact Fin.ext ((by decide +kernel : ∀ t : Fin grid0.N, win0_10.flush t = true → t.val = 7) t hf)
  rw [he, ht]
  rfl

/-- The last line drops the output array's second axis. -/
theorem scores (c : Dev nD) (r : Fin 32) :
    Pipeline.afterTail₀ cfgs (dats m) 0 (V0 m) [hostOps1] c main_v0 (ix1 r) = (dats m 0 c).arrAt 10 cfg0.N (ix2 r 0) := by
  rw [← Pipeline.withArrays_arr spec0 launch0.win.arr_inj c (V0 m c) (fun w => (dats m 0 c).arrAt w cfg0.N) 10]
  show StableHlo.after hostOps1 (Pipeline.withArrays spec0 c (V0 m c) fun w => (dats m 0 c).arrAt w cfg0.N) (Proc.devRef .tc main_v0) (ix1 r) = _
  generalize (Pipeline.withArrays spec0 c (V0 m c) fun w => (dats m 0 c).arrAt w cfg0.N) = held
  after_results
  show shapeCast S32 (held (Proc.devRef .tc (Pipeline.arrRef spec0 10))) shapeCasts_S32x1_S32 (ix1 r) = _
  generalize held (Proc.devRef .tc (Pipeline.arrRef spec0 10)) = x
  clean_types
  pointwise

end Cert.KernelIdeal.Ntn

end
-- ==== Proof.Same.lean ====
/- The kernel as printed and its idealized form are one program, at any floats. -/
module

public import proofs.«01_k».proof.Proof.Launch
public import proofs.«01_k».proof.Proof.Gen.Kernel

@[expose] public section

set_option maxRecDepth 16384

noncomputable section

namespace Cert.Proof

open Idealize.ShloMosaic

variable {F : FTy → Type} [FloatOps F]

/-- The two body tables are one. -/
theorem same_bodies : (Cert.Kernel.defs₀ (F := F) : Defs Cert.KernelIdeal.nD Cert.KernelIdeal.τ Cert.KernelIdeal.sig (Elt F) Cert.KernelIdeal.Λ₀)
    = Cert.KernelIdeal.defs₀ (F := F) := by
  refine congrArg Defs.onTc (funext fun l => funext fun x => ?_)
  match l, x with
  | 0, (t, s) => rfl

/-- The two programs' tables are one. -/
theorem same_table : (Cert.Kernel.defs (F := F) : Defs Cert.KernelIdeal.nD Cert.KernelIdeal.τ Cert.KernelIdeal.sig (Elt F)
      (Pipeline.Sig Cert.KernelIdeal.Λ₀ (Fin 1) fun p => (Cert.KernelIdeal.pcfgs (F := F) p).Adm))
    = Cert.KernelIdeal.defs (F := F) :=
  congrArg (Pipeline.defs (Cert.KernelIdeal.pcfgs (F := F))) same_bodies

end Cert.Proof

end
-- ==== Proof.RefValues.lean ====
/- The reference's result, read at a pair. -/
module

public import proofs.«01_k».proof.Proof.Math
public import proofs.«01_k».proof.Proof.Gen.ReferenceIdeal.Read
public import Idealize.ShloMosaic.Lib.Pointwise
public import Idealize.ShloMosaic.Lib.Tactic.CleanTypes

@[expose] public section

set_option maxRecDepth 16384

noncomputable section

namespace Cert.ReferenceIdeal.Ntn

open Idealize Idealize.ShloMosaic Cert.ReferenceIdeal Cert.ReferenceIdeal.Gen Cert.ReferenceIdeal.Read Cert.Ntn

/-- The two towers of the reference are one function. -/
theorem second_tower (x : (⟨S32x512x256, .f32⟩ : BufTy).Contents (Elt Ideal)) (l : (⟨S32x512x512, .f32⟩ : BufTy).Contents (Elt Ideal))
    (w1 : (⟨S256x256, .f32⟩ : BufTy).Contents (Elt Ideal)) (w2 : (⟨S256x128, .f32⟩ : BufTy).Contents (Elt Ideal)) :
    val_main_v17 (F := Ideal) x l w1 w2 = val_main_v8 (F := Ideal) x l w1 w2 := rfl

/-- The constant the reference's mean divides by is 512. -/
theorem word512 : Ideal.ofBits .f32 0x44000000#32 = ((512 : ℝ) : EReal) := by
  simp [Ideal.ofBits, Ideal.ieee, -EReal.coe_mul]; norm_num

/-- The reference's embedding of a graph, at a lane. -/
theorem embedding_apply (x : (⟨S32x512x256, .f32⟩ : BufTy).Contents (Elt Ideal)) (l : (⟨S32x512x512, .f32⟩ : BufTy).Contents (Elt Ideal))
    (w1 : (⟨S256x256, .f32⟩ : BufTy).Contents (Elt Ideal)) (w2 : (⟨S256x128, .f32⟩ : BufTy).Contents (Elt Ideal)) (r : Fin 32) (d : Fin 128) :
    val_main_v8 (F := Ideal) x l w1 w2 (ix2 r d)
      = embed (fun n q => x (ix3 r n q)) (fun n k => l (ix3 r n k)) (fun a b => w1 (ix2 a b)) (fun a b => w2 (ix2 a b)) d := by
  unfold embed layers
  unfold val_main_v8 val_main_v6 val_main_v7 val_main_cst val_main_cst_0 val_main_v5 val_main_v4 val_main_v3 val_main_v2 val_main_v1 val_main_v0 val_main_call0_v0 val_main_call1_v0 val_main_call0_cst val_main_call1_cst
  clean_types
  pointwise
  rw [word512, Ideal.div_coe (by norm_num)]

/-- The reference's result at a pair. -/
theorem result_apply (x1 x2 : (⟨S32x512x256, .f32⟩ : BufTy).Contents (Elt Ideal)) (l1 l2 : (⟨S32x512x512, .f32⟩ : BufTy).Contents (Elt Ideal))
    (w1 : (⟨S256x256, .f32⟩ : BufTy).Contents (Elt Ideal)) (w2 : (⟨S256x128, .f32⟩ : BufTy).Contents (Elt Ideal))
    (wt : (⟨S16x128x128, .f32⟩ : BufTy).Contents (Elt Ideal)) (v : (⟨S16x256, .f32⟩ : BufTy).Contents (Elt Ideal))
    (b : (⟨S16, .f32⟩ : BufTy).Contents (Elt Ideal)) (w : (⟨S16x1, .f32⟩ : BufTy).Contents (Elt Ideal)) (r : Fin 32) :
    val_main_v29 (F := Ideal) x1 x2 l1 l2 w1 w2 wt v b w (ix1 r)
      = tensor (embed (fun n q => x1 (ix3 r n q)) (fun n k => l1 (ix3 r n k)) (fun a b => w1 (ix2 a b)) (fun a b => w2 (ix2 a b)))
          (embed (fun n q => x2 (ix3 r n q)) (fun n k => l2 (ix3 r n k)) (fun a b => w1 (ix2 a b)) (fun a b => w2 (ix2 a b)))
          (fun k i j => wt (ix3 k i j)) (fun k q => v (ix2 k q)) (fun k => b (ix1 k)) (fun k => w (ix2 k 0)) := by
  have h1 := fun d => embedding_apply x1 l1 w1 w2 r d
  have h2 := fun d => embedding_apply x2 l2 w1 w2 r d
  unfold tensor
  unfold val_main_v29 val_main_v28 val_main_v27 val_main_v26 val_main_v25 val_main_v24 val_main_v23 val_main_v22 val_main_v21 val_main_v20 val_main_v19 val_main_v18 val_main_call4_v0 val_main_call4_cst
  simp only [second_tower]
  simp only [← h1, ← h2]
  generalize val_main_v8 (F := Ideal) x1 l1 w1 w2 = e1
  generalize val_main_v8 (F := Ideal) x2 l2 w1 w2 = e2
  clean_types
  pointwise

end Cert.ReferenceIdeal.Ntn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.Same
public import proofs.«01_k».proof.Proof.RefValues
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel's idealized form, over any floats, ends with its arguments as they were and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0) :=
  θ_run_and (Cert.KernelIdeal.Gen.frame_of m ρ (Cert.KernelIdeal.Ntn.dats m) (Cert.KernelIdeal.Ntn.arrays_eq m) (Cert.KernelIdeal.Ntn.run_mem m ρ))
    ((θ_run Cert.KernelIdeal.defs _ _).mono (fun _ h => h.2) (Cert.KernelIdeal.Ntn.run_all m ρ))

/-- The idealized form's frame. -/
theorem frame_ideal : Cert.quiescent_KernelIdeal := fun m ρ _ => frame_any m ρ

/-- The printed kernel's frame: it is the same program. -/
theorem frame_kernel : Cert.quiescent_Kernel := fun m ρ _ =>
  (congrArg (fun D => θ_run D (onTc (τ := Cert.KernelIdeal.τ) (Cert.KernelIdeal.main (F := Bits))) ⟨m, fun _ => 0, ρ⟩ _) same_table).mpr (frame_any m ρ)

/-- The reference ends with its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference compute the same scores. -/
theorem algebraic : Cert.algebraic_KernelIdeal_ReferenceIdeal := by
  pair_intro
  · run_from Cert.KernelIdeal.Ntn.run_mem m g
    · exact Cert.KernelIdeal.Gen.W_main_arg6 m (Cert.KernelIdeal.Ntn.dats m) c
    · exact Cert.KernelIdeal.Gen.W_main_arg8 m (Cert.KernelIdeal.Ntn.dats m) c
  · run_from Cert.ReferenceIdeal.Value.run m' g'
    rw [Cert.ReferenceIdeal.Read.val_main_v29_eq]
    obtain ⟨h0, h1, h2, h3, h4, h5, h6, h7, h8, h9⟩ := hagree c
    rw [h0, h1, h2, h3, h4, h5, h6, h7, h8, h9]
    funext y
    obtain ⟨r, rfl⟩ : ∃ r : Fin 32, y = ix1 r := ⟨y 0, eq_ix1 y⟩
    exact (Cert.ReferenceIdeal.Ntn.result_apply _ _ _ _ _ _ _ _ _ _ r).trans
      ((Cert.KernelIdeal.Ntn.scores m c r).trans ((congrFun (Cert.KernelIdeal.Ntn.output m c) (ix2 r 0)).trans
        (Cert.KernelIdeal.Ntn.result_apply m c _ r))).symm

/-- Everything claimed. -/
theorem claim : Cert.Claim :=
  ⟨Cert.Kernel.Gen.facts, Cert.KernelIdeal.Gen.facts, Cert.ReferenceIdeal.Gen.facts, frame_kernel, frame_ideal, frame_reference, trivial, algebraic⟩

end Cert.Proof

end
